-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x196x8x8 : Shape := ⟨4, ![4096, 196, 8, 8]⟩
abbrev S128x196 : Shape := ⟨2, ![128, 196]⟩
abbrev S128 : Shape := ⟨1, ![128]⟩
abbrev S16x128 : Shape := ⟨2, ![16, 128]⟩
abbrev S16 : Shape := ⟨1, ![16]⟩
abbrev S_ : Shape := ⟨0, ![]⟩
abbrev S4096x12544 : Shape := ⟨2, ![4096, 12544]⟩
abbrev S196x128 : Shape := ⟨2, ![196, 128]⟩
abbrev S98x128 : Shape := ⟨2, ![98, 128]⟩
abbrev S1x128 : Shape := ⟨2, ![1, 128]⟩
abbrev S128x16 : Shape := ⟨2, ![128, 16]⟩
abbrev S1x16 : Shape := ⟨2, ![1, 16]⟩
abbrev S4096x16 : Shape := ⟨2, ![4096, 16]⟩
abbrev S64x12544 : Shape := ⟨2, ![64, 12544]⟩
abbrev S64x16 : Shape := ⟨2, ![64, 16]⟩
abbrev S64x98x128 : Shape := ⟨3, ![64, 98, 128]⟩
abbrev S64x128x98 : Shape := ⟨3, ![64, 128, 98]⟩
abbrev S64x64x98 : Shape := ⟨3, ![64, 64, 98]⟩
abbrev S4096x98 : Shape := ⟨2, ![4096, 98]⟩
abbrev S4096x128 : Shape := ⟨2, ![4096, 128]⟩
abbrev S64x64x128 : Shape := ⟨3, ![64, 64, 128]⟩
abbrev S64x128 : Shape := ⟨2, ![64, 128]⟩
abbrev S64 : Shape := ⟨1, ![64]⟩
abbrev S64x1 : Shape := ⟨2, ![64, 1]⟩
abbrev S64x16x1 : Shape := ⟨3, ![64, 16, 1]⟩
abbrev S64x1x16 : Shape := ⟨3, ![64, 1, 16]⟩
abbrev S1x16x16 : Shape := ⟨3, ![1, 16, 16]⟩
abbrev S64x16x16 : Shape := ⟨3, ![64, 16, 16]⟩

abbrev nBuf : Space → Nat
  | .hbm => 15
  | .vmem => 9
  | .smem => 0
  | _ => 0

abbrev bufTy : (tb : Table) → Fin (tcTables nBuf tb) → BufTy
  | .hbm, ⟨0, _⟩ => ⟨S4096x196x8x8, .f32⟩
  | .hbm, ⟨1, _⟩ => ⟨S128x196, .f32⟩
  | .hbm, ⟨2, _⟩ => ⟨S128, .f32⟩
  | .hbm, ⟨3, _⟩ => ⟨S16x128, .f32⟩
  | .hbm, ⟨4, _⟩ => ⟨S16, .f32⟩
  | .hbm, ⟨5, _⟩ => ⟨S_, .i32⟩
  | .hbm, ⟨6, _⟩ => ⟨S_, .i32⟩
  | .hbm, ⟨7, _⟩ => ⟨S4096x12544, .f32⟩
  | .hbm, ⟨8, _⟩ => ⟨S196x128, .f32⟩
  | .hbm, ⟨9, _⟩ => ⟨S98x128, .f32⟩
  | .hbm, ⟨10, _⟩ => ⟨S98x128, .f32⟩
  | .hbm, ⟨11, _⟩ => ⟨S1x128, .f32⟩
  | .hbm, ⟨12, _⟩ => ⟨S128x16, .f32⟩
  | .hbm, ⟨13, _⟩ => ⟨S1x16, .f32⟩
  | .hbm, ⟨14, _⟩ => ⟨S4096x16, .f32⟩
  | .local _ .vmem, ⟨0, _⟩ => ⟨S64x12544, .f32⟩
  | .local _ .vmem, ⟨1, _⟩ => ⟨S64x12544, .f32⟩
  | .local _ .vmem, ⟨2, _⟩ => ⟨S98x128, .f32⟩
  | .local _ .vmem, ⟨3, _⟩ => ⟨S98x128, .f32⟩
  | .local _ .vmem, ⟨4, _⟩ => ⟨S1x128, .f32⟩
  | .local _ .vmem, ⟨5, _⟩ => ⟨S128x16, .f32⟩
  | .local _ .vmem, ⟨6, _⟩ => ⟨S1x16, .f32⟩
  | .local _ .vmem, ⟨7, _⟩ => ⟨S64x16, .f32⟩
  | .local _ .vmem, ⟨8, _⟩ => ⟨S64x16, .f32⟩
  | _, _ => ⟨S4096x196x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S98x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S98x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x196x8x8 : Shape := ⟨4, ![4096, 196, 8, 8]⟩
abbrev S128x196 : Shape := ⟨2, ![128, 196]⟩
abbrev S128 : Shape := ⟨1, ![128]⟩
abbrev S16x128 : Shape := ⟨2, ![16, 128]⟩
abbrev S16 : Shape := ⟨1, ![16]⟩
abbrev S_ : Shape := ⟨0, ![]⟩
abbrev S128x4096x8x8 : Shape := ⟨4, ![128, 4096, 8, 8]⟩
abbrev S4096x128x8x8 : Shape := ⟨4, ![4096, 128, 8, 8]⟩
abbrev S1x128x1x1 : Shape := ⟨4, ![1, 128, 1, 1]⟩
abbrev S4096x128 : Shape := ⟨2, ![4096, 128]⟩
abbrev S128x16 : Shape := ⟨2, ![128, 16]⟩
abbrev S4096x16 : Shape := ⟨2, ![4096, 16]⟩
abbrev S1x16 : Shape := ⟨2, ![1, 16]⟩
abbrev S4096 : Shape := ⟨1, ![4096]⟩
abbrev S4096x1 : Shape := ⟨2, ![4096, 1]⟩
abbrev S4096x16x1 : Shape := ⟨3, ![4096, 16, 1]⟩
abbrev S1 : Shape := ⟨1, ![1]⟩
abbrev S1x1x1 : Shape := ⟨3, ![1, 1, 1]⟩

abbrev nBuf : Space → Nat
  | .hbm => 117
  | .vmem => 0
  | .smem => 0
  | _ => 0

abbrev bufTy : (tb : Table) → Fin (tcTables nBuf tb) → BufTy
  | .hbm, ⟨0, _⟩ => ⟨S4096x196x8x8, .f32⟩
  | .hbm, ⟨1, _⟩ => ⟨S128x196, .f32⟩
  | .hbm, ⟨2, _⟩ => ⟨S128, .f32⟩
  | .hbm, ⟨3, _⟩ => ⟨S16x128, .f32⟩
  | .hbm, ⟨4, _⟩ => ⟨S16, .f32⟩
  | .hbm, ⟨5, _⟩ => ⟨S_, .i32⟩
  | .hbm, ⟨6, _⟩ => ⟨S_, .i32⟩
  | .hbm, ⟨7, _⟩ => ⟨S128x4096x8x8, .f32⟩
  | .hbm, ⟨8, _⟩ => ⟨S4096x128x8x8, .f32⟩
  | .hbm, ⟨9, _⟩ => ⟨S1x128x1x1, .f32⟩
  | .hbm, ⟨10, _⟩ => ⟨S4096x128x8x8, .f32⟩
  | .hbm, ⟨11, _⟩ => ⟨S4096x128x8x8, .f32⟩
  | .hbm, ⟨12, _⟩ => ⟨S_, .f32⟩
  | .hbm, ⟨13, _⟩ => ⟨S4096x128x8x8, .f32⟩
  | .hbm, ⟨14, _⟩ => ⟨S4096x128x8x8, .f32⟩
  | .hbm, ⟨15, _⟩ => ⟨S_, .f32⟩
  | .hbm, ⟨16, _⟩ => ⟨S4096x128, .f32⟩
  | .hbm, ⟨17, _⟩ => ⟨S_, .f32⟩
  | .hbm, ⟨18, _⟩ => ⟨S4096x128, .f32⟩
  | .hbm, ⟨19, _⟩ => ⟨S4096x128, .f32⟩
  | .hbm, ⟨20, _⟩ => ⟨S128x16, .f32⟩
  | .hbm, ⟨21, _⟩ => ⟨S4096x16, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S_, .f32⟩
  | .hbm, ⟨26, _⟩ => ⟨S4096x16, .f32⟩
  | .hbm, ⟨27, _⟩ => ⟨S4096x16, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x16, .f32⟩
  | .hbm, ⟨41, _⟩ => ⟨S4096x16, .f32⟩
  | .hbm, ⟨42, _⟩ => ⟨S4096x16, .f32⟩
  | .hbm, ⟨43, _⟩ => ⟨S4096x16, .i32⟩
  | .hbm, ⟨44, _⟩ => ⟨S4096x16, .f32⟩
  | .hbm, ⟨45, _⟩ => ⟨S4096x16, .i32⟩
  | .hbm, ⟨46, _⟩ => ⟨S_, .i32⟩
  | .hbm, ⟨47, _⟩ => ⟨S4096x16, .i32⟩
  | .hbm, ⟨48, _⟩ => ⟨S4096x16, .i1⟩
  | .hbm, ⟨49, _⟩ => ⟨S_, .i32⟩
  | .hbm, ⟨50, _⟩ => ⟨S4096x16, .i32⟩
  | .hbm, ⟨51, _⟩ => ⟨S4096x16, .i32⟩
  | .hbm, ⟨52, _⟩ => ⟨S4096x16, .i32⟩
  | .hbm, ⟨53, _⟩ => ⟨S4096x16x1, .i32⟩
  | .hbm, ⟨54, _⟩ => ⟨S1, .i32⟩
  | .hbm, ⟨55, _⟩ => ⟨S_, .i32⟩
  | .hbm, ⟨56, _⟩ => ⟨S4096x16x1, .i32⟩
  | .hbm, ⟨57, _⟩ => ⟨S4096x16x1, .i1⟩
  | .hbm, ⟨58, _⟩ => ⟨S1x1x1, .i32⟩
  | .hbm, ⟨59, _⟩ => ⟨S4096x16x1, .i32⟩
  | .hbm, ⟨60, _⟩ => ⟨S4096x16x1, .i1⟩
  | .hbm, ⟨61, _⟩ => ⟨S4096x16x1, .i1⟩
  | .hbm, ⟨62, _⟩ => ⟨S_, .i1⟩
  | .hbm, ⟨63, _⟩ => ⟨S4096x16, .i1⟩
  | .hbm, ⟨64, _⟩ => ⟨S4096x16, .f32⟩
  | .hbm, ⟨65, _⟩ => ⟨S_, .f32⟩
  | .hbm, ⟨66, _⟩ => ⟨S4096x16, .f32⟩
  | .hbm, ⟨67, _⟩ => ⟨S4096x16, .f32⟩
  | .hbm, ⟨68, _⟩ => ⟨S_, .f32⟩
  | .hbm, ⟨69, _⟩ => ⟨S_, .f32⟩
  | .hbm, ⟨70, _⟩ => ⟨S4096x16, .f32⟩
  | .hbm, ⟨71, _⟩ => ⟨S16, .i32⟩
  | .hbm, ⟨72, _⟩ => ⟨S1x16, .i32⟩
  | .hbm, ⟨73, _⟩ => ⟨S_, .f32⟩
  | .hbm, ⟨74, _⟩ => ⟨S4096x16, .f32⟩
  | .hbm, ⟨75, _⟩ => ⟨S4096x16, .i1⟩
  | .hbm, ⟨76, _⟩ => ⟨S_, .i32⟩
  | .hbm, ⟨77, _⟩ => ⟨S1x16, .i32⟩
  | .hbm, ⟨78, _⟩ => ⟨S1x16, .i1⟩
  | .hbm, ⟨79, _⟩ => ⟨S4096x16, .i1⟩
  | .hbm, ⟨80, _⟩ => ⟨S4096x16, .i1⟩
  | .hbm, ⟨81, _⟩ => ⟨S4096x16, .f32⟩
  | .hbm, ⟨82, _⟩ => ⟨S4096x16, .i32⟩
  | .hbm, ⟨83, _⟩ => ⟨S4096x16, .i32⟩
  | .hbm, ⟨84, _⟩ => ⟨S4096x16, .i32⟩
  | .hbm, ⟨85, _⟩ => ⟨S_, .i32⟩
  | .hbm, ⟨86, _⟩ => ⟨S4096x16, .i32⟩
  | .hbm, ⟨87, _⟩ => ⟨S4096x16, .i1⟩
  | .hbm, ⟨88, _⟩ => ⟨S_, .i32⟩
  | .hbm, ⟨89, _⟩ => ⟨S4096x16, .i32⟩
  | .hbm, ⟨90, _⟩ => ⟨S4096x16, .i32⟩
  | .hbm, ⟨91, _⟩ => ⟨S4096x16, .i32⟩
  | .hbm, ⟨92, _⟩ => ⟨S4096x16x1, .i32⟩
  | .hbm, ⟨93, _⟩ => ⟨S1, .i32⟩
  | .hbm, ⟨94, _⟩ => ⟨S_, .i32⟩
  | .hbm, ⟨95, _⟩ => ⟨S4096x16x1, .i32⟩
  | .hbm, ⟨96, _⟩ => ⟨S4096x16x1, .i1⟩
  | .hbm, ⟨97, _⟩ => ⟨S1x1x1, .i32⟩
  | .hbm, ⟨98, _⟩ => ⟨S4096x16x1, .i32⟩
  | .hbm, ⟨99, _⟩ => ⟨S4096x16x1, .i1⟩
  | .hbm, ⟨100, _⟩ => ⟨S4096x16x1, .i1⟩
  | .hbm, ⟨101, _⟩ => ⟨S_, .i1⟩
  | .hbm, ⟨102, _⟩ => ⟨S4096x16, .i1⟩
  | .hbm, ⟨103, _⟩ => ⟨S4096x16, .f32⟩
  | .hbm, ⟨104, _⟩ => ⟨S_, .f32⟩
  | .hbm, ⟨105, _⟩ => ⟨S4096x16, .f32⟩
  | .hbm, ⟨106, _⟩ => ⟨S4096x16, .f32⟩
  | .hbm, ⟨107, _⟩ => ⟨S4096x16, .f32⟩
  | .hbm, ⟨108, _⟩ => ⟨S_, .f32⟩
  | .hbm, ⟨109, _⟩ => ⟨S4096, .f32⟩
  | .hbm, ⟨110, _⟩ => ⟨S4096x1, .f32⟩
  | .hbm, ⟨111, _⟩ => ⟨S_, .f32⟩
  | .hbm, ⟨112, _⟩ => ⟨S_, .f32⟩
  | .hbm, ⟨113, _⟩ => ⟨S4096x1, .f32⟩
  | .hbm, ⟨114, _⟩ => ⟨S4096x1, .f32⟩
  | .hbm, ⟨115, _⟩ => ⟨S4096x16, .f32⟩
  | .hbm, ⟨116, _⟩ => ⟨S4096x16, .f32⟩
  | _, _ => ⟨S4096x196x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_v0 : Ref sig .tc := ⟨.hbm, 43, rfl⟩
abbrev main_call1_v1_0 : Ref sig .tc := ⟨.hbm, 44, rfl⟩
abbrev main_v28 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v29 : Ref sig .tc := ⟨.hbm, 67, rfl⟩
abbrev main_call3_call0_cst : Ref sig .tc := ⟨.hbm, 68, rfl⟩
abbrev main_call3_call0_v0 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_5 : Ref sig .tc := ⟨.hbm, 73, rfl⟩
abbrev main_v33 : Ref sig .tc := ⟨.hbm, 74, rfl⟩
abbrev main_v34 : Ref sig .tc := ⟨.hbm, 75, rfl⟩
abbrev main_c : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_call4_v0 : Ref sig .tc := ⟨.hbm, 82, rfl⟩
abbrev main_call4_v1_0 : Ref sig .tc := ⟨.hbm, 83, rfl⟩
abbrev main_v40 : Ref sig .tc := ⟨.hbm, 84, rfl⟩
abbrev main_call5_c : Ref sig .tc := ⟨.hbm, 85, rfl⟩
abbrev main_call5_v0 : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_c_1 : Ref sig .tc := ⟨.hbm, 93, rfl⟩
abbrev main_call5_c_2 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_3 : Ref sig .tc := ⟨.hbm, 101, rfl⟩
abbrev main_call5_v12 : Ref sig .tc := ⟨.hbm, 102, rfl⟩
abbrev main_call5_v13 : Ref sig .tc := ⟨.hbm, 103, rfl⟩
abbrev main_call5_cst : Ref sig .tc := ⟨.hbm, 104, rfl⟩
abbrev main_call5_v14 : Ref sig .tc := ⟨.hbm, 105, rfl⟩
abbrev main_v41 : Ref sig .tc := ⟨.hbm, 106, rfl⟩
abbrev main_v42 : Ref sig .tc := ⟨.hbm, 107, rfl⟩
abbrev main_cst_6 : Ref sig .tc := ⟨.hbm, 108, rfl⟩
abbrev main_v43 : Ref sig .tc := ⟨.hbm, 109, rfl⟩
abbrev main_v44 : Ref sig .tc := ⟨.hbm, 110, rfl⟩
abbrev main_cst_7 : Ref sig .tc := ⟨.hbm, 111, rfl⟩
abbrev main_call6_v0 : Ref sig .tc := ⟨.hbm, 112, rfl⟩
abbrev main_call6_v1 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩

abbrev nD : Nat := 1
abbrev τ : Topo := Topo.v7x

variable {F : FTy → Type} [FloatOps F]
-- ==== Proof.TopP.lean ====
module

public import Idealize.ShloMosaic.Lib.SortFacts
public import Idealize.ShloMosaic.Lib.Pointwise

/-! The top-p filter of one row of sixteen numbers, in the two forms the two programs give it, and that they agree. -/

@[expose] public section

noncomputable section

namespace Cert.TopP

open Idealize.ShloMosaic

/-! ## The stable sort of a list of positions by a key -/

section Places
variable {n : Nat} {α : Type} [LinearOrder α]

/-- Position `a` comes before position `b` in the stable order of the keys `f`. -/
def Before (f : Fin n → α) (a b : Fin n) : Prop := f a < f b ∨ (f a = f b ∧ a < b)

theorem Before.trans {f : Fin n → α} {a b c : Fin n} (h : Before f a b) (h' : Before f b c) : Before f a c := by
  rcases h with h | ⟨h, hl⟩ <;> rcases h' with h' | ⟨h', hl'⟩
  · exact .inl (h.trans h')
  · exact .inl (h' ▸ h)
  · exact .inl (h ▸ h')
  · exact .inr ⟨h.trans h', hl.trans hl'⟩

theorem Before.irrefl {f : Fin n → α} {a : Fin n} : ¬ Before f a a := by
  rintro (h | ⟨_, h⟩) <;> exact lt_irrefl _ h

/-- Inserting a position that precedes all the others keeps the list in the stable order. -/
theorem pairwise_insert (f : Fin n → α) (a : Fin n) (m : List (Fin n)) (ha : ∀ b ∈ m, a < b)
    (hm : m.Pairwise (Before f)) : (insertBefore (fun k k' => decide (f k < f k')) a m).Pairwise (Before f) := by
  induction m with
  | nil => exact List.pairwise_singleton _ _
  | cons b l ih =>
    rw [List.pairwise_cons] at hm
    unfold insertBefore
    split
    · next hb =>
      have hb' : f b < f a := of_decide_eq_true hb
      refine List.pairwise_cons.2 ⟨fun c hc => ?_, ih (fun c hc => ha c (List.mem_cons_of_mem _ hc)) hm.2⟩
      have hc' := (perm_insertBefore _ a l).mem_iff.1 hc
      rcases List.mem_cons.1 hc' with rfl | hc'
      · exact .inl hb'
      · exact hm.1 c hc'
    · next hb =>
      have hab : f a ≤ f b := not_lt.1 fun h => hb (decide_eq_true h)
      have hB : Before f a b := (lt_or_eq_of_le hab).elim .inl fun h => .inr ⟨h, ha b List.mem_cons_self⟩
      refine List.pairwise_cons.2 ⟨fun c hc => ?_, List.pairwise_cons.2 hm⟩
      rcases List.mem_cons.1 hc with rfl | hc
      · exact hB
      · exact hB.trans (hm.1 c hc)

/-- A stable sort of positions listed in increasing order is in the stable order of the keys. -/
theorem pairwise_sort (f : Fin n → α) (l : List (Fin n)) (hl : l.Pairwise (· < ·)) :
    (stableSort (fun k k' => decide (f k < f k')) l).Pairwise (Before f) := by
  induction l with
  | nil => exact List.Pairwise.nil
  | cons a l ih =>
    rw [List.pairwise_cons] at hl
    exact pairwise_insert f a _ (fun b hb => hl.1 b ((perm_stableSort _ l).mem_iff.1 hb)) (ih hl.2)

/-- The position a stable sort by the keys `f` puts at each place. -/
@[irreducible] def place (f : Fin n → α) : Fin n → Fin n := sortedFrom (fun k k' => decide (f k < f k'))

theorem place_before (f : Fin n → α) {i j : Fin n} (h : i < j) : Before f (place f i) (place f j) := by
  have hp := pairwise_sort f (List.finRange n) (List.pairwise_lt_finRange n)
  unfold place
  exact List.pairwise_iff_get.1 hp _ _ h

theorem place_before_iff (f : Fin n → α) (i j : Fin n) : Before f (place f i) (place f j) ↔ i < j := by
  refine ⟨fun h => ?_, place_before f⟩
  rcases lt_trichotomy i j with hij | rfl | hij
  · exact hij
  · exact absurd h Before.irrefl
  · exact absurd (h.trans (place_before f hij)) Before.irrefl

theorem place_injective (f : Fin n → α) : Function.Injective (place f) := by
  unfold place; exact sortedFrom_injective _

theorem place_surjective (f : Fin n → α) : Function.Surjective (place f) := by
  unfold place; exact sortedFrom_surjective _

/-- Sorting the positions by where a first sort put them inverts the first sort. -/
theorem place_place (f : Fin n → α) (e : Fin n) : place f (place (place f) e) = e := by
  have hm : StrictMono fun e => place f (place (place f) e) := fun i j h => by
    rcases place_before (place f) h with h' | ⟨h', hlt⟩
    · exact h'
    · exact absurd (place_injective f h') hlt.ne
  exact le_antisymm hm.apply_le hm.le_apply

end Places

/-- The embedding of the reals carries a finite sum over. -/
theorem coe_sum {ι : Type} (s : Finset ι) (g : ι → ℝ) : ((∑ k ∈ s, g k : ℝ) : EReal) = ∑ k ∈ s, (g k : EReal) :=
  map_sum (⟨⟨Real.toEReal, EReal.coe_zero⟩, EReal.coe_add⟩ : ℝ →+ EReal) g s

/-! ## The filter of one row -/

/-- The share of each entry in the row's sum. -/
def prob (x : Fin 16 → EReal) (e : Fin 16) : EReal := Ideal.div (x e) (∑ k, x k)

/-- The mass of entry `e` and of every entry ahead of it: the larger ones, and the equal ones of no larger index. -/
def incl (p : Fin 16 → EReal) (e : Fin 16) : EReal := ∑ j, if p e < p j ∨ (p j = p e ∧ j ≤ e) then p j else 0

/-- The row with every entry outside the top-p set made zero: an entry stays when its inclusive mass is at most `t`, or
    when nothing lies ahead of it. -/
def masked (t : EReal) (p : Fin 16 → EReal) (e : Fin 16) : EReal :=
  if incl p e ≤ t ∨ incl p e - p e = 0 then p e else 0

/-- The running sum of the row in decreasing order, up to place `k`. -/
def running (p : Fin 16 → EReal) (k : Fin 16) : EReal := ∑ l, if l ≤ k then p (place (fun j => -p j) l) else 0

/-- The row times the 0/1 mask that the sorted row's running sum gives, the mask put back in the row's own order. -/
def sortMasked (t : EReal) (p : Fin 16 → EReal) (e : Fin 16) : EReal :=
  p e * if running p (place (place fun j => -p j) e) ≤ t ∨ (place (place fun j => -p j) e).val < 1 then 1 else 0

/-- The row divided by its sum, the sum raised to at least `c`. -/
def renorm (c : EReal) (q : Fin 16 → EReal) (e : Fin 16) : EReal := Ideal.div (q e) (max c (∑ k, q k))

/-- The inclusive mass of an entry is the running sum at the entry's place. -/
theorem incl_eq_running (p : Fin 16 → EReal) (e : Fin 16) :
    incl p e = running p (place (place fun j => -p j) e) := by
  set f : Fin 16 → EReal := fun j => -p j with hf
  set k := place (place f) e with hk
  have he : place f k = e := place_place f e
  unfold incl running
  rw [← (Equiv.ofBijective (place f) ⟨place_injective f, place_surjective f⟩).sum_comp]
  refine Finset.sum_congr rfl fun l _ => ?_
  simp only [Equiv.ofBijective_apply, ← hf]
  refine if_congr ?_ rfl rfl
  rw [← he, ← not_iff_not, not_le, ← place_before_iff f]
  simp only [Before, hf, EReal.neg_lt_neg_iff, neg_inj, not_or, not_and, not_lt, not_le]
  rw [he]
  constructor
  · rintro ⟨h1, h2⟩
    rcases lt_or_eq_of_le h1 with h | h
    · exact .inl h
    · exact .inr ⟨h.symm, h2 h⟩
  · rintro (h | ⟨h, h'⟩)
    · exact ⟨h.le, fun h' => absurd h' h.ne⟩
    · exact ⟨h.ge, fun _ => h'⟩

/-- On a row of nonnegative reals the two forms of the filter agree. -/
theorem masked_eq_of_real (t : EReal) (p : Fin 16 → EReal) (r : Fin 16 → ℝ) (hr : ∀ e, 0 ≤ r e) (hp : ∀ e, p e = (r e : EReal))
    (e : Fin 16) : masked t p e = sortMasked t p e := by
  unfold masked sortMasked
  by_cases h0 : p e = 0
  · simp [h0]
  rw [← incl_eq_running p e]
  set k := place (place fun j => -p j) e with hk
  have he : place (fun j => -p j) k = e := place_place _ e
  have hrun : incl p e = ((∑ l, if l ≤ k then r (place (fun j => -p j) l) else 0 : ℝ) : EReal) := by
    rw [incl_eq_running, ← hk]
    unfold running
    rw [coe_sum]
    exact Finset.sum_congr rfl fun l _ => by split <;> simp [hp]
  have hre : 0 < r e := lt_of_le_of_ne (hr e) fun h => h0 (by rw [hp, ← h]; rfl)
  have key : incl p e - p e = 0 ↔ k.val < 1 := by
    have hsplit : (∑ l, if l ≤ k then r (place (fun j => -p j) l) else 0 : ℝ)
        = r e + ∑ l, if l < k then r (place (fun j => -p j) l) else 0 := by
      have : ∀ l : Fin 16, (if l ≤ k then r (place (fun j => -p j) l) else 0)
          = (if l = k then r e else 0) + (if l < k then r (place (fun j => -p j) l) else 0) := fun l => by
        rcases lt_trichotomy l k with h | h | h
        · simp [h, h.le, h.ne]
        · simp [h, he]
        · simp [h.not_ge, h.ne', h.not_gt]
      rw [Finset.sum_congr rfl fun l _ => this l, Finset.sum_add_distrib]
      simp
    rw [hrun, hp, ← EReal.coe_sub, hsplit, add_sub_cancel_left, EReal.coe_eq_zero]
    constructor
    · intro h
      by_contra hk0
      have hlt : (0 : Fin 16) < k := by rw [Fin.lt_def]; simp; omega
      have hz := (Finset.sum_eq_zero_iff_of_nonneg (fun l _ => by split <;> simp [hr])).1 h 0 (Finset.mem_univ _)
      rw [if_pos hlt] at hz
      have hb := place_before (fun j => -p j) hlt
      rw [he] at hb
      have hle : p e ≤ p (place (fun j => -p j) 0) := by
        rcases hb with hb | ⟨hb, _⟩
        · exact (EReal.neg_lt_neg_iff.1 hb).le
        · exact (neg_inj.1 hb).ge
      rw [hp, hp, hz, EReal.coe_le_coe_iff] at hle
      exact absurd hle (not_le.2 hre)
    · intro h
      refine Finset.sum_eq_zero fun l _ => if_neg ?_
      rw [Fin.lt_def]; omega
  simp only [key, mul_ite, mul_one, mul_zero]

/-- On a row of `⊥` the two forms of the filter agree: every entry stays. -/
theorem masked_eq_of_bot (t : EReal) (p : Fin 16 → EReal) (hp : ∀ e, p e = ⊥) (e : Fin 16) :
    masked t p e = sortMasked t p e := by
  unfold masked sortMasked
  rw [← incl_eq_running p e]
  have : incl p e = ⊥ := by
    unfold incl
    rw [← Finset.add_sum_erase _ _ (Finset.mem_univ e), if_pos (.inr ⟨rfl, le_rfl⟩), hp e, EReal.bot_add]
  simp [this]

/-- The shares of a row of nonnegative reals: the two forms of the filter agree on them, also where the row is all zero. -/
theorem masked_prob (t : EReal) (x : Fin 16 → EReal) (r : Fin 16 → ℝ) (hr : ∀ e, 0 ≤ r e) (hx : ∀ e, x e = (r e : EReal)) :
    masked t (prob x) = sortMasked t (prob x) := by
  funext e
  have hs : ∑ k, x k = ((∑ k, r k : ℝ) : EReal) := by
    rw [coe_sum]; exact Finset.sum_congr rfl fun k _ => hx k
  by_cases h0 : ∑ k, r k = 0
  · refine masked_eq_of_bot t _ (fun k => ?_) e
    have hk := (Finset.sum_eq_zero_iff_of_nonneg (fun l _ => hr l)).1 h0 k (Finset.mem_univ _)
    unfold prob
    rw [hs, h0, hx, hk]
    simp [Ideal.div]
  · refine masked_eq_of_real t _ (fun k => r k * (∑ k, r k)⁻¹)
      (fun k => mul_nonneg (hr k) (inv_nonneg.2 (Finset.sum_nonneg fun l _ => hr l))) (fun k => ?_) e
    unfold prob
    rw [hs, hx, Ideal.div, if_neg (by rwa [EReal.coe_eq_zero]), EReal.coe_mul, EReal.coe_inv]

/-- An entry's exponential, the row's maximum subtracted first, is a nonnegative real. -/
theorem exp_sub_max (z : Fin 16 → EReal) (e : Fin 16) :
    ∃ r : ℝ, 0 ≤ r ∧ Ideal.exp (z e - Finset.univ.fold max ⊥ z) = (r : EReal) := by
  have hle : z e ≤ Finset.univ.fold max ⊥ z := by
    rw [Finset.le_fold_max]; exact .inr ⟨e, Finset.mem_univ _, le_rfl⟩
  generalize Finset.univ.fold max ⊥ z = M at hle
  generalize z e = y at hle
  have hne : y - M ≠ ⊤ := by
    induction M <;> induction y <;> simp_all [← EReal.coe_sub]
  generalize y - M = d at hne
  induction d with
  | bot => exact ⟨0, le_rfl, by rw [Ideal.exp_bot]; rfl⟩
  | coe d => exact ⟨Real.exp d, (Real.exp_pos d).le, Ideal.exp_coe d⟩
  | top => exact absurd rfl hne

/-- The logits' row, its exponentials, their shares and the filter: the two programs' forms agree. -/
theorem filter_eq (t c : EReal) (z : Fin 16 → EReal) :
    renorm c (masked t (prob fun e => Ideal.exp (z e - Finset.univ.fold max ⊥ z)))
      = renorm c (sortMasked t (prob fun e => Ideal.exp (z e - Finset.univ.fold max ⊥ z))) := by
  choose r hr hx using exp_sub_max z
  rw [masked_prob t _ r hr hx]

end Cert.TopP
end
-- ==== Proof.Spec.lean ====
module

public import proofs.«01_k».proof.Proof.TopP

/-! What both programs compute, as functions of extended reals: the pooled features, the logits, and the result. -/

@[expose] public section

noncomputable section

namespace Cert.Gate

open Idealize.ShloMosaic Cert.TopP

/-- One pooled feature of one example: the mean over the 64 positions of the rectified projection of the 196 channels.
    `x c s` is channel `c` at position `s`, `w` the projection's row and `b` its bias. -/
def pooled (x : Fin 196 → Fin 64 → EReal) (w : Fin 196 → EReal) (b : EReal) : EReal :=
  Ideal.div (∑ s, max (∑ c, w c * x c s + b) 0) (Ideal.ofBits .f32 0x42800000#32)

/-- One logit of one example over the temperature: `u` the 128 pooled features, `v` the head's row and `d` its bias. -/
def logit (u : Fin 128 → EReal) (v : Fin 128 → EReal) (d : EReal) : EReal :=
  Ideal.div (∑ o, u o * v o + d) (Ideal.ofBits .f32 0x3F666666#32)

/-- The exponentials of a row of logits, its maximum subtracted first. -/
def expRow (z : Fin 16 → EReal) (e : Fin 16) : EReal := Ideal.exp (z e - Finset.univ.fold max ⊥ z)

/-- The gate of one example, from its exponentials: the shares, the top-p filter, and the division by what is left. -/
def gate (x : Fin 16 → EReal) : Fin 16 → EReal :=
  renorm (Ideal.ofBits .f32 0x2EDBE6FF#32) (masked (Ideal.ofBits .f32 0x3F4CCCCD#32) (prob x))

/-- The same with the filter as a stable sort, a running sum and the inverse sort give it. -/
def sortGate (x : Fin 16 → EReal) : Fin 16 → EReal :=
  renorm (Ideal.ofBits .f32 0x2EDBE6FF#32) (sortMasked (Ideal.ofBits .f32 0x3F4CCCCD#32) (prob x))

/-- The two forms of the gate agree on the exponentials of any row of logits. -/
theorem gate_eq_sortGate (z : Fin 16 → EReal) : gate (expRow z) = sortGate (expRow z) := filter_eq _ _ z

/-- The logits of example `n`, from the five arrays the programs read: the images, the projection and its bias, the
    head and its bias. Position `s` of the 64 is row `s / 8`, column `s % 8`. -/
def logits (x0 : (⟨4, ![4096, 196, 8, 8]⟩ : Shape).Idx → EReal) (x1 : (⟨2, ![128, 196]⟩ : Shape).Idx → EReal)
    (x2 : (⟨1, ![128]⟩ : Shape).Idx → EReal) (x3 : (⟨2, ![16, 128]⟩ : Shape).Idx → EReal)
    (x4 : (⟨1, ![16]⟩ : Shape).Idx → EReal) (n : Fin 4096) (e : Fin 16) : EReal :=
  logit (fun o => pooled (fun c s => x0 (ix4 n c ⟨s.val / 8, by omega⟩ ⟨s.val % 8, by omega⟩)) (fun c => x1 (ix2 o c)) (x2 (ix1 o)))
    (fun o => x3 (ix2 e o)) (x4 (ix1 e))

/-- The result array. -/
def result (x0 : (⟨4, ![4096, 196, 8, 8]⟩ : Shape).Idx → EReal) (x1 : (⟨2, ![128, 196]⟩ : Shape).Idx → EReal)
    (x2 : (⟨1, ![128]⟩ : Shape).Idx → EReal) (x3 : (⟨2, ![16, 128]⟩ : Shape).Idx → EReal)
    (x4 : (⟨1, ![16]⟩ : Shape).Idx → EReal) : (⟨2, ![4096, 16]⟩ : Shape).Idx → EReal :=
  fun i => gate (expRow (logits x0 x1 x2 x3 x4 (i 0))) (i 1)

/-- A sum over the 64 positions in order is the sum over the rows of the sums over the columns. -/
theorem sum_positions (f : Fin 8 → Fin 8 → EReal) :
    ∑ s : Fin 64, f ⟨s.val / 8, by omega⟩ ⟨s.val % 8, by omega⟩ = ∑ a, ∑ b, f a b := by
  rw [← (finProdFinEquiv (m := 8) (n := 8)).sum_comp, Fintype.sum_prod_type]
  refine Finset.sum_congr rfl fun a _ => Finset.sum_congr rfl fun b _ => ?_
  refine congrArg₂ f (Fin.ext ?_) (Fin.ext ?_)
  · simp [finProdFinEquiv]; omega
  · simp [finProdFinEquiv]

/-- A sum over 196 channels is the sum over the even ones plus the sum over the odd ones. -/
theorem sum_even_odd (f : Fin 196 → EReal) :
    ∑ c, f c = (∑ k : Fin 98, f ⟨2 * k.val, by omega⟩) + ∑ k : Fin 98, f ⟨2 * k.val + 1, by omega⟩ := by
  rw [← (finProdFinEquiv (m := 98) (n := 2)).sum_comp, Fintype.sum_prod_type, ← Finset.sum_add_distrib]
  refine Finset.sum_congr rfl fun k _ => ?_
  rw [Fin.sum_univ_two]
  refine congrArg₂ (· + ·) (congrArg f (Fin.ext ?_)) (congrArg f (Fin.ext ?_))
  · simp [finProdFinEquiv]
  · simp [finProdFinEquiv]; omega

end Cert.Gate
end
-- ==== Proof.Words.lean ====
module

public import Idealize.ShloMosaic.Lib.Pointwise
public import Idealize.ShloMosaic.Lib.IdealHost

/-! One-bit truth values, positions below 16 as words, and the constants, read. -/

@[expose] public section

noncomputable section

namespace Cert.Word

open Idealize.ShloMosaic

/-- The order of two positions below 16, read off their 32-bit words. -/
theorem sle_word : ∀ x e : Fin 16, IntOp.cmpi .sle (BitVec.ofNat 32 x.val) (BitVec.ofNat 32 e.val) = BitVec.ofBool (decide (x ≤ e)) := by
  decide

/-- The conjunction of two one-bit truth values. -/
theorem and_word (p q : Bool) : IntOp.andi (BitVec.ofBool p) (BitVec.ofBool q) = BitVec.ofBool (p && q) := by
  cases p <;> cases q <;> rfl

/-- The disjunction of two one-bit truth values. -/
theorem or_word (p q : Bool) : IntOp.ori (BitVec.ofBool p) (BitVec.ofBool q) = BitVec.ofBool (p || q) := by
  cases p <;> cases q <;> rfl

/-- The pattern of minus infinity is `⊥`. -/
theorem ofBits_negInf : Ideal.ofBits .f32 0xFF800000#32 = ⊥ := by
  simp [Ideal.ofBits, Ideal.ieee]

/-- A choice by a truth value. -/
theorem sel_word {α : Type} (p : Bool) (x y : α) : Scalar.select (BitVec.ofBool p) x y = if p then x else y := by
  cases p <;> rfl

end Cert.Word
end
-- ==== Proof.KernelBlock.lean ====
module

public import proofs.«01_k».proof.Proof.Gen.KernelIdeal.Value
public import proofs.«01_k».proof.Proof.Spec
public import proofs.«01_k».proof.Proof.Words

/-! What the kernel's body computes of one block of 64 examples, element by element. -/

@[expose] public section

set_option maxRecDepth 16384

noncomputable section

namespace Cert.KernelIdeal.Block

open Cert.KernelIdeal Cert.KernelIdeal.Gen Idealize.ShloMosaic Cert.TopP Cert.Gate Cert.Word

/-- The second half of the body: of a block of exponentials, each row's gate. -/
theorem pay1_apply (v : FVec Ideal S64x16 .f32) (r : Fin 64) (e : Fin 16) :
    k0_pay1 v (ix2 r e) = gate (fun k => v (ix2 r k)) e := by
  pointwise [k0_pay1]
  simp only [sle_word, and_word, or_word, sel_word]
  simp only [gate, renorm, masked, incl, prob, Bool.or_eq_true, Bool.and_eq_true, decide_eq_true_eq]

/-- The first half of the body: of a block of examples, each row's exponentials. Row `r` of the first operand holds the
    example's 196 channels of 64 positions in order, the next two the even and the odd columns of the projection. -/
theorem pay2_apply (v0 : Vec Ideal S64x12544 .f32) (v8 v11 : Vec Ideal S98x128 .f32) (v15 : Vec Ideal S1x128 .f32)
    (v25 : Vec Ideal S128x16 .f32) (v28 : Vec Ideal S1x16 .f32) (x : Fin 196 → Fin 64 → EReal) (w : Fin 128 → Fin 196 → EReal)
    (r : Fin 64) (e : Fin 16)
    (hx : ∀ c s, v0 (ix2 r ⟨c.val * 64 + s.val, by omega⟩) = x c s)
    (hw : ∀ k o, v8 (ix2 k o) = w o ⟨2 * k.val, by omega⟩)
    (hw' : ∀ k o, v11 (ix2 k o) = w o ⟨2 * k.val + 1, by omega⟩) :
    k0_pay2 v0 v8 v11 v15 v25 v28 (ix2 r e)
      = expRow (fun e => logit (fun o => pooled x (w o) (v15 (ix2 0 o))) (fun o => v25 (ix2 o e)) (v28 (ix2 0 e))) e := by
  have hs : ∀ (s : Fin 64) (o : Fin 128),
      ∑ k : Fin 98, v0 (ix2 r ⟨k.val * 128 + s.val, by omega⟩) * v8 (ix2 k o)
        + ∑ k : Fin 98, v0 (ix2 r ⟨k.val * 128 + (64 + s.val), by omega⟩) * v11 (ix2 k o) = ∑ c, w o c * x c s := fun s o => by
    rw [sum_even_odd fun c => w o c * x c s]
    refine congrArg₂ (· + ·) (Finset.sum_congr rfl fun k _ => ?_) (Finset.sum_congr rfl fun k _ => ?_)
    · rw [hw, ← hx, mul_comm]
      refine congrArg (_ * ·) (congrArg v0 (congrArg (ix2 r ·) (Fin.ext ?_)))
      dsimp only; omega
    · rw [hw', ← hx, mul_comm]
      refine congrArg (_ * ·) (congrArg v0 (congrArg (ix2 r ·) (Fin.ext ?_)))
      dsimp only; omega
  pointwise [k0_pay2]
  simp only [hs, ofBits_negInf]
  rfl

end Cert.KernelIdeal.Block
end
-- ==== Proof.KernelValue.lean ====
module

public import proofs.«01_k».proof.Proof.KernelBlock
public import proofs.«01_k».proof.Proof.Gen.KernelIdeal.Value

/-! The kernel's result array: the blocks its grid points write, put together. -/

@[expose] public section

set_option maxRecDepth 16384

noncomputable section

namespace Cert.KernelIdeal.Whole

open Cert.KernelIdeal Cert.KernelIdeal.Gen Cert.KernelIdeal.Value Idealize.ShloMosaic Idealize.ShloMosaic.TcCoe Idealize.SL.Sem Cert.Gate
open Idealize.ShloMosaic.Pipeline (Dat)

variable (m : (ℓ : Loc nD τ sig) → Buf (Elt Ideal) ℓ)

/-- The result the kernel is shown to leave, a function of its first five arguments. -/
abbrev goal (c : Dev nD) : Buf (Elt Ideal) ((c : Thread nD τ).loc main_v7) :=
  result (m ((c : Thread nD τ).loc main_arg0)) (m ((c : Thread nD τ).loc main_arg1)) (m ((c : Thread nD τ).loc main_arg2))
    (m ((c : Thread nD τ).loc main_arg3)) (m ((c : Thread nD τ).loc main_arg4))

/-! ## The arrays the region finds -/

/-- The examples, flattened: column `c * 64 + s` is channel `c` at position `s`. -/
theorem V_v0 (c : Dev nD) (n : Fin 4096) (ch : Fin 196) (s : Fin 64) :
    V m c main_v0 (ix2 n ⟨ch.val * 64 + s.val, by omega⟩)
      = m ((c : Thread nD τ).loc main_arg0) (ix4 n ch ⟨s.val / 8, by omega⟩ ⟨s.val % 8, by omega⟩) := by
  have h : V m c main_v0 = shapeCast S4096x12544 (m ((c : Thread nD τ).loc main_arg0)) shapeCasts_S4096x196x8x8_S4096x12544 := by
    show StableHlo.after hostOps0 _ (Proc.devRef .tc main_v0) = _
    after_results
    rfl
  rw [h]
  refine shapeCast_apply _ shapeCasts_S4096x196x8x8_S4096x12544 _ (ix4 n ch ⟨s.val / 8, by omega⟩ ⟨s.val % 8, by omega⟩) ?_
  rewrite [Shape.rowMajor_val_four, Shape.rowMajor_val_two]
  show ((n.val * 196 + ch.val) * 8 + s.val / 8) * 8 + s.val % 8 = n.val * 12544 + (ch.val * 64 + s.val)
  omega

/-- The even channels' weights, a column per feature. -/
theorem V_v2 (c : Dev nD) (k : Fin 98) (o : Fin 128) :
    V m c main_v2 (ix2 k o) = m ((c : Thread nD τ).loc main_arg1) (ix2 o ⟨2 * k.val, by omega⟩) := by
  have h : V m c main_v2 = Host.slice S98x128 ![0, 0] ![2, 1] (transpose S196x128 [1, 0] (m ((c : Thread nD τ).loc main_arg1)) transposes_S128x196_S196x128_1_0) slicesBy_S196x128_S98x128_0s2_0s1 := by
    show StableHlo.after hostOps0 _ (Proc.devRef .tc main_v2) = _
    after_results
  rw [h]
  pointwise []

/-- The odd channels' weights, a column per feature. -/
theorem V_v3 (c : Dev nD) (k : Fin 98) (o : Fin 128) :
    V m c main_v3 (ix2 k o) = m ((c : Thread nD τ).loc main_arg1) (ix2 o ⟨2 * k.val + 1, by omega⟩) := by
  have h : V m c main_v3 = Host.slice S98x128 ![1, 0] ![2, 1] (transpose S196x128 [1, 0] (m ((c : Thread nD τ).loc main_arg1)) transposes_S128x196_S196x128_1_0) slicesBy_S196x128_S98x128_1s2_0s1 := by
    show StableHlo.after hostOps0 _ (Proc.devRef .tc main_v3) = _
    after_results
  rw [h]
  pointwise []
  exact congrArg (fun q => m ((c : Thread nD τ).loc main_arg1) (ix2 o q)) (Fin.ext (Nat.add_comm _ _))

/-- The features' bias as a row. -/
theorem V_v4 (c : Dev nD) (o : Fin 128) :
    V m c main_v4 (ix2 0 o) = m ((c : Thread nD τ).loc main_arg2) (ix1 o) := by
  have h : V m c main_v4 = shapeCast S1x128 (m ((c : Thread nD τ).loc main_arg2)) shapeCasts_S128_S1x128 := by
    show StableHlo.after hostOps0 _ (Proc.devRef .tc main_v4) = _
    after_results
    rfl
  rw [h]
  pointwise []

/-- The experts' weights, a column per expert. -/
theorem V_v5 (c : Dev nD) (o : Fin 128) (e : Fin 16) :
    V m c main_v5 (ix2 o e) = m ((c : Thread nD τ).loc main_arg3) (ix2 e o) := by
  have h : V m c main_v5 = transpose S128x16 [1, 0] (m ((c : Thread nD τ).loc main_arg3)) transposes_S16x128_S128x16_1_0 := by
    show StableHlo.after hostOps0 _ (Proc.devRef .tc main_v5) = _
    after_results
  rw [h]
  pointwise []

/-- The experts' bias as a row. -/
theorem V_v6 (c : Dev nD) (e : Fin 16) :
    V m c main_v6 (ix2 0 e) = m ((c : Thread nD τ).loc main_arg4) (ix1 e) := by
  have h : V m c main_v6 = shapeCast S1x16 (m ((c : Thread nD τ).loc main_arg4)) shapeCasts_S16_S1x16 := by
    show StableHlo.after hostOps0 _ (Proc.devRef .tc main_v6) = _
    after_results
    rfl
  rw [h]
  pointwise []

/-! ## The blocks a grid point reads -/

/-- Where each window's block starts. -/
theorem starts : ∀ t : Fin cfg0.N,
    (win0_0.index t 0 * win0_0.size 0 = t.val * 64 ∧ win0_0.index t 1 * win0_0.size 1 = 0)
    ∧ (∀ a, win0_1.index t a * win0_1.size a = 0) ∧ (∀ a, win0_2.index t a * win0_2.size a = 0)
    ∧ (∀ a, win0_3.index t a * win0_3.size a = 0) ∧ (∀ a, win0_4.index t a * win0_4.size a = 0)
    ∧ (∀ a, win0_5.index t a * win0_5.size a = 0)
    ∧ (win0_6.index t 0 * win0_6.size 0 = t.val * 64 ∧ win0_6.index t 1 * win0_6.size 1 = 0)
    ∧ win0_6.xsize (grid0.coords t) 0 = 64 ∧ win0_6.xsize (grid0.coords t) 1 = 16 :=
  (by decide +kernel : ∀ t : Fin grid0.N,
    (win0_0.index t 0 * win0_0.size 0 = t.val * 64 ∧ win0_0.index t 1 * win0_0.size 1 = 0)
    ∧ (∀ a, win0_1.index t a * win0_1.size a = 0) ∧ (∀ a, win0_2.index t a * win0_2.size a = 0)
    ∧ (∀ a, win0_3.index t a * win0_3.size a = 0) ∧ (∀ a, win0_4.index t a * win0_4.size a = 0)
    ∧ (∀ a, win0_5.index t a * win0_5.size a = 0)
    ∧ (win0_6.index t 0 * win0_6.size 0 = t.val * 64 ∧ win0_6.index t 1 * win0_6.size 1 = 0)
    ∧ win0_6.xsize (grid0.coords t) 0 = 64 ∧ win0_6.xsize (grid0.coords t) 1 = 16)

/-- A grid point is below 64. -/
theorem point_lt (t : Fin cfg0.N) : t.val < 64 := lt_of_lt_of_eq t.isLt N_0

/-- The example that row `r` of grid point `t`'s block holds. -/
abbrev row (t : Fin cfg0.N) (r : Fin 64) : Fin 4096 := ⟨t.val * 64 + r.val, by have := point_lt t; omega⟩

/-- Window 0's block: rows `t * 64` on of the examples. -/
theorem blk0 (c : Dev nD) (t : Fin cfg0.N) (r : Fin 64) (j : Fin 12544) : iblk m c 0 t (ix2 r j) = V m c main_v0 (ix2 (row t r) j) := by
  obtain ⟨⟨h0, h1⟩, -⟩ := starts t
  unfold iblk
  rw [View.read_apply]
  show V m c main_v0 _ = _
  refine congrArg (V m c main_v0) (funext fun a => Fin.ext ?_)
  match a with
  | ⟨0, _⟩ => show win0_0.index t 0 * win0_0.size 0 + 1 * r.val = t.val * 64 + r.val; omega
  | ⟨1, _⟩ => show win0_0.index t 1 * win0_0.size 1 + 1 * j.val = j.val; omega

/-- Window 1's block is its whole array. -/
theorem blk1 (c : Dev nD) (t : Fin cfg0.N) : iblk m c 1 t = V m c main_v2 := by
  obtain ⟨-, h, -⟩ := starts t
  funext j
  unfold iblk
  rw [View.read_apply]
  show V m c main_v2 _ = _
  refine congrArg (V m c main_v2) (funext fun a => Fin.ext ?_)
  show win0_1.index t a * win0_1.size a + 1 * (j a).val = (j a).val
  rw [h a]; omega

/-- Window 2's block is its whole array. -/
theorem blk2 (c : Dev nD) (t : Fin cfg0.N) : iblk m c 2 t = V m c main_v3 := by
  obtain ⟨-, -, h, -⟩ := starts t
  funext j
  unfold iblk
  rw [View.read_apply]
  show V m c main_v3 _ = _
  refine congrArg (V m c main_v3) (funext fun a => Fin.ext ?_)
  show win0_2.index t a * win0_2.size a + 1 * (j a).val = (j a).val
  rw [h a]; omega

/-- Window 3's block is its whole array. -/
theorem blk3 (c : Dev nD) (t : Fin cfg0.N) : iblk m c 3 t = V m c main_v4 := by
  obtain ⟨-, -, -, h, -⟩ := starts t
  funext j
  unfold iblk
  rw [View.read_apply]
  show V m c main_v4 _ = _
  refine congrArg (V m c main_v4) (funext fun a => Fin.ext ?_)
  show win0_3.index t a * win0_3.size a + 1 * (j a).val = (j a).val
  rw [h a]; omega

/-- Window 4's block is its whole array. -/
theorem blk4 (c : Dev nD) (t : Fin cfg0.N) : iblk m c 4 t = V m c main_v5 := by
  obtain ⟨-, -, -, -, h, -⟩ := starts t
  funext j
  unfold iblk
  rw [View.read_apply]
  show V m c main_v5 _ = _
  refine congrArg (V m c main_v5) (funext fun a => Fin.ext ?_)
  show win0_4.index t a * win0_4.size a + 1 * (j a).val = (j a).val
  rw [h a]; omega

/-- Window 5's block is its whole array. -/
theorem blk5 (c : Dev nD) (t : Fin cfg0.N) : iblk m c 5 t = V m c main_v6 := by
  obtain ⟨-, -, -, -, -, h, -⟩ := starts t
  funext j
  unfold iblk
  rw [View.read_apply]
  show V m c main_v6 _ = _
  refine congrArg (V m c main_v6) (funext fun a => Fin.ext ?_)
  show win0_5.index t a * win0_5.size a + 1 * (j a).val = (j a).val
  rw [h a]; omega

/-! ## The blocks put together -/

/-- The offset of every access to a staging buffer. -/
theorem offset_zero : (![0, 0] : Fin 2 → Nat) = fun _ => 0 := by
  funext a
  match a with
  | ⟨0, _⟩ => rfl
  | ⟨1, _⟩ => rfl

/-- The body's value at row `r` of grid point `t`'s block. -/
theorem body_apply (c : Dev nD) (t : Fin cfg0.N) (r : Fin 64) (e : Fin 16) :
    out0_6 (iblk m c 0 t) (iblk m c 1 t) (iblk m c 2 t) (iblk m c 3 t) (iblk m c 4 t) (iblk m c 5 t) (ix2 r e)
      = goal m c (ix2 (row t r) e) := by
  unfold out0_6
  rw [View.canon_unit_zero offset_zero, View.ld_unit_zero offset_zero, View.ld_unit_zero offset_zero, View.ld_unit_zero offset_zero,
    View.ld_unit_zero offset_zero, View.ld_unit_zero offset_zero, View.ld_unit_zero offset_zero, Block.pay1_apply]
  refine congrArg (fun z => gate z e) (funext fun k => ?_)
  refine (Block.pay2_apply _ _ _ _ _ _ _ (fun o ch => m ((c : Thread nD τ).loc main_arg1) (ix2 o ch)) r k
    (fun ch s => (blk0 m c t r _).trans (V_v0 m c (row t r) ch s)) (fun k o => (congrFun (blk1 m c t) _).trans (V_v2 m c k o))
    (fun k o => (congrFun (blk2 m c t) _).trans (V_v3 m c k o))).trans ?_
  rw [blk3, blk4, blk5]
  exact congrArg (fun z => expRow z k) (funext fun j =>
    congr (congrArg₂ logit (funext fun o => congrArg (pooled _ _) (V_v4 m c o)) (funext fun o => V_v5 m c o j)) (V_v6 m c j))

/-- What grid point `t` writes back is its block of the result. -/
theorem flushed_eq (c : Dev nD) (t : Fin cfg0.N) :
    (dats m 0 c).flushed 6 t = ((cfg0.win 6).blk t).view.read (Elt Ideal) (goal m c) := by
  rw [flushed6]
  obtain ⟨-, -, -, -, -, -, ⟨h0, h1⟩, -⟩ := starts t
  funext j
  have hj : ((cfg0.win 6).blk t).view.read (Elt Ideal) (goal m c) j = goal m c (ix2 (row t (j 0)) (j 1)) := by
    rw [View.read_apply]
    refine congrArg (goal m c) (funext fun a => Fin.ext ?_)
    match a with
    | ⟨0, _⟩ => show win0_6.index t 0 * win0_6.size 0 + 1 * (j 0).val = t.val * 64 + (j 0).val; omega
    | ⟨1, _⟩ => show win0_6.index t 1 * win0_6.size 1 + 1 * (j 1).val = (j 1).val; omega
  rw [hj, ← body_apply m c t (j 0) (j 1)]
  exact congrArg _ (eq_ix2 (n0 := 64) (n1 := 16) j)

/-- An index whose row is among a point's 64 is in the point's block. -/
theorem mem_blk (t : Fin cfg0.N) (i : S4096x16.Idx) (h : t.val * 64 ≤ (i 0).val ∧ (i 0).val < t.val * 64 + 64) :
    i ∈ ((cfg0.win 6).blk t).view.set := by
  obtain ⟨-, -, -, -, -, -, ⟨h0, h1⟩, x0, x1⟩ := starts t
  have i1 : (i 1).val < 16 := (i 1).isLt
  show i ∈ ((View.whole main_v7).slice (win0_6.rect t)).set
  rw [View.set_slice_whole, Rect.mem_set_unit]
  intro a
  match a with
  | ⟨0, _⟩ =>
    show win0_6.index t 0 * win0_6.size 0 ≤ (i 0).val ∧ (i 0).val < win0_6.index t 0 * win0_6.size 0 + win0_6.xsize (grid0.coords t) 0
    rw [h0, x0]; exact h
  | ⟨1, _⟩ =>
    show win0_6.index t 1 * win0_6.size 1 ≤ (i 1).val ∧ (i 1).val < win0_6.index t 1 * win0_6.size 1 + win0_6.xsize (grid0.coords t) 1
    rw [h1, x1]; omega

/-- Every index of the result lies in the block of the point its row belongs to. -/
theorem cover (i : S4096x16.Idx) : ∃ t : Fin cfg0.N, (cfg0.win 6).flush t = true ∧ i ∈ ((cfg0.win 6).blk t).view.set := by
  have i0 : (i 0).val < 4096 := (i 0).isLt
  have hN : cfg0.N = 64 := N_0
  exact ⟨⟨(i 0).val / 64, by omega⟩, flush0_6 _, mem_blk _ i (by dsimp only; omega)⟩

/-- The result array after the run. -/
theorem final (c : Dev nD) : (dats m 0 c).arrAt 6 cfg0.N = goal m c :=
  (dats m 0 c).arrAt_eq_of_cover 6 (goal m c) (fun t _ => flushed_eq m c t) cover

end Cert.KernelIdeal.Whole
end
-- ==== Proof.RefLogits.lean ====
module

public import proofs.«01_k».proof.Proof.Gen.ReferenceIdeal.Read
public import proofs.«01_k».proof.Proof.Spec
public import proofs.«01_k».proof.Proof.Words

/-! The reference's features, logits and shares, element by element. -/

@[expose] public section

set_option maxRecDepth 16384

noncomputable section

namespace Cert.ReferenceIdeal.Logits

open Cert.ReferenceIdeal Cert.ReferenceIdeal.Gen Cert.ReferenceIdeal.Read Idealize.ShloMosaic Cert.TopP Cert.Gate Cert.Word

variable (x0 : (⟨S4096x196x8x8, .f32⟩ : BufTy).Contents (Elt Ideal)) (x1 : (⟨S128x196, .f32⟩ : BufTy).Contents (Elt Ideal))
  (x2 : (⟨S128, .f32⟩ : BufTy).Contents (Elt Ideal)) (x3 : (⟨S16x128, .f32⟩ : BufTy).Contents (Elt Ideal))
  (x4 : (⟨S16, .f32⟩ : BufTy).Contents (Elt Ideal))

/-- The rectified projection of example `n` at row `a`, column `b`. -/
theorem relu_apply (n : Fin 4096) (o : Fin 128) (a b : Fin 8) :
    val_main_v5 (F := Ideal) x0 x1 x2 (ix4 n o a b) = max (∑ c, x1 (ix2 o c) * x0 (ix4 n c a b) + x2 (ix1 o)) 0 := by
  pointwise [val_main_v5, val_main_v4, val_main_v3, val_main_v2, val_main_v1, val_main_v0, val_main_call0_v0, val_main_call0_cst]

/-- The pooled features. -/
theorem pool_apply (n : Fin 4096) (o : Fin 128) :
    val_main_v8 (F := Ideal) x0 x1 x2 (ix2 n o)
      = pooled (fun c s => x0 (ix4 n c ⟨s.val / 8, by omega⟩ ⟨s.val % 8, by omega⟩)) (fun c => x1 (ix2 o c)) (x2 (ix1 o)) := by
  pointwise [val_main_v8, val_main_v7, val_main_v6, val_main_cst, val_main_cst_0]
  simp only [relu_apply]
  unfold pooled
  rw [← sum_positions]

/-- The logits. -/
theorem logit_apply (n : Fin 4096) (e : Fin 16) :
    val_main_v15 (F := Ideal) x0 x1 x2 x3 x4 (ix2 n e) = logits x0 x1 x2 x3 x4 n e := by
  pointwise [val_main_v15, val_main_v14, val_main_v13, val_main_v12, val_main_v11, val_main_v10, val_main_v9, val_main_cst_1]
  simp only [pool_apply]
  rfl

/-- The exponentials. -/
theorem exp_apply (n : Fin 4096) (e : Fin 16) :
    val_main_v22 (F := Ideal) x0 x1 x2 x3 x4 (ix2 n e) = expRow (logits x0 x1 x2 x3 x4 n) e := by
  pointwise [val_main_v22, val_main_v21, val_main_v20, val_main_v19, val_main_v18, val_main_v17, val_main_v16, val_main_cst_2, val_main_cst_3]
  simp only [logit_apply, ofBits_negInf, bot_le, max_eq_right]
  rfl

/-- The shares. -/
theorem prob_apply (n : Fin 4096) (e : Fin 16) :
    val_main_v26 (F := Ideal) x0 x1 x2 x3 x4 (ix2 n e) = prob (expRow (logits x0 x1 x2 x3 x4 n)) e := by
  pointwise [val_main_v26, val_main_v25, val_main_v24, val_main_v23, val_main_cst_4]
  simp only [exp_apply]
  rfl

end Cert.ReferenceIdeal.Logits
end
-- ==== Proof.RefOps.lean ====
module

public import proofs.«01_k».proof.Proof.Gen.ReferenceIdeal.Read
public import proofs.«01_k».proof.Proof.TopP
public import proofs.«01_k».proof.Proof.Words

/-! The reference's sorts, gathers and running sum, read at an index. -/

@[expose] public section

set_option maxRecDepth 16384

noncomputable section

namespace Cert.ReferenceIdeal.Ops

open Cert.ReferenceIdeal Cert.ReferenceIdeal.Gen Idealize.ShloMosaic Cert.TopP Cert.Word

/-- Moving along the second axis of a two-axis index replaces its second coordinate. -/
theorem along_ix2 (n : Fin 4096) (k l : Fin 16) :
    Shape.Idx.along (s := S4096x16) (ix2 n k) 1 l = ix2 n l := by
  unfold Shape.Idx.along
  funext a
  match a with
  | ⟨0, _⟩ => exact Function.update_of_ne (a := (0 : Fin 2)) (by decide) _ _
  | ⟨1, _⟩ => exact Function.update_self _ _ _

/-- A one-bit truth value compared with one is the truth value. -/
theorem word_beq (p : Bool) : (BitVec.ofBool p == 1#1) = p := by cases p <;> decide

/-- The comparison of the shares' sort orders the keys as extended reals. -/
theorem key_order (l r : Ideal .f32 × BitVec 32) :
    comparator_f32_i32_d1 (F := Ideal) l r = BitVec.ofBool (decide ((l.1 : EReal) < r.1)) := by
  have hz : ∀ y : EReal, Scalar.select (BitVec.ofBool (decide (y = 0))) (0 : EReal) y = y := fun y => by
    rw [sel_word]; split
    · next h => exact (of_decide_eq_true h).symm
    · rfl
  have hn : ∀ y q : EReal, Scalar.select (BitVec.ofBool (decide (y ≠ y))) q y = y := fun y q => by
    rw [sel_word]; simp
  show BitVec.ofBool (decide (_ < _)) = _
  have e : ∀ y : EReal, Scalar.select (Ideal.cmp .une y y) (Ideal.ofBits .f32 0x7FC00000#32)
      (Scalar.select (Ideal.cmp .oeq y (Ideal.ofBits .f32 0x00000000#32)) (Ideal.ofBits .f32 0x00000000#32) y) = y := fun y => by
    have h0 : Ideal.ofBits .f32 0x00000000#32 = 0 := by simp [Ideal.ofBits, Ideal.ieee]
    rw [h0]
    show Scalar.select (BitVec.ofBool (decide (y ≠ y))) _ (Scalar.select (BitVec.ofBool (decide (y = 0))) 0 y) = y
    rw [hz, hn]
  exact congrArg₂ (fun a b : EReal => BitVec.ofBool (decide (a < b))) (e l.1) (e r.1)

/-- The sort of a row of extended reals carrying the positions: place `k` holds the position the stable sort puts there. -/
theorem sort_keys (x : FVec Ideal S4096x16 .f32) (n : Fin 4096) (k : Fin 16) :
    (Host.sort2 S4096x16 1 (comparator_f32_i32_d1 (F := Ideal)) x (iotaInDim S4096x16 32 1)).2 (ix2 n k)
      = BitVec.ofNat 32 (place (fun j : Fin 16 => (x (ix2 n j) : EReal)) k).val := by
  unfold Host.sort2 place
  rw [dif_pos (by decide : 1 < S4096x16.rank)]
  dsimp only
  refine (congrArg (iotaInDim S4096x16 32 1) (along_ix2 n k _)).trans ?_
  show BitVec.ofNat 32 (sortedFrom _ k).val = _
  refine congrArg (fun b => BitVec.ofNat 32 (sortedFrom (n := 16) b k).val) ?_
  funext a b
  rw [key_order, word_beq]
  exact congrArg₂ (fun a b : EReal => decide (a < b)) (congrArg x (along_ix2 n k a)) (congrArg x (along_ix2 n k b))

/-- The order of two positions below 16, read off their 32-bit words. -/
theorem slt_word : ∀ x e : Fin 16, IntOp.cmpi .slt (BitVec.ofNat 32 x.val) (BitVec.ofNat 32 e.val) = BitVec.ofBool (decide (x < e)) := by
  decide

/-- The sort of a row of positions carrying the positions. -/
theorem sort_positions (x : IVec S4096x16 32) (f : Fin 16 → Fin 16) (n : Fin 4096) (k : Fin 16)
    (hx : ∀ j, x (ix2 n j) = BitVec.ofNat 32 (f j).val) :
    (Host.sort2 S4096x16 1 comparator_i32_i32_d1 x (iotaInDim S4096x16 32 1)).2 (ix2 n k)
      = BitVec.ofNat 32 (place f k).val := by
  unfold Host.sort2 place
  rw [dif_pos (by decide : 1 < S4096x16.rank)]
  dsimp only
  refine (congrArg (iotaInDim S4096x16 32 1) (along_ix2 n k _)).trans ?_
  show BitVec.ofNat 32 (sortedFrom _ k).val = _
  refine congrArg (fun b => BitVec.ofNat 32 (sortedFrom (n := 16) b k).val) ?_
  funext a b
  refine (congrArg₂ (fun v w : BitVec 32 => IntOp.cmpi .slt v w == 1#1) ((congrArg x (along_ix2 n k a)).trans (hx a))
    ((congrArg x (along_ix2 n k b)).trans (hx b))).trans ?_
  exact (congrArg (· == 1#1) (slt_word (f a) (f b))).trans (word_beq _)

/-- A position's word read as a signed number and clamped to the row is the position. -/
theorem clamp_word : ∀ m : Fin 16, min (BitVec.ofNat 32 m.val).toInt.toNat (16 - 1) = m.val := by decide

/-- The gather along a row: at an index holding position `m`'s word it reads the row at `m`. -/
theorem gather_row {α : Type} (x : S4096x16.Idx → α) (idx : IVec S4096x16x1 32) (n : Fin 4096) (k m : Fin 16)
    (h : idx (ix3 n k 0) = BitVec.ofNat 32 m.val) :
    Host.gather gather_S4096x16_S4096x16x1_S4096x16_n_1_0_0_1_2_11 x idx (ix2 n k) = x (ix2 n m) := by
  set d := gather_S4096x16_S4096x16x1_S4096x16_n_1_0_0_1_2_11 with hd
  have h0 : (0 : Fin 2) ∈ d.operandBatchingDims := List.mem_singleton.mpr rfl
  have h1 : (1 : Fin 2) ∈ d.startIndexMap := List.mem_singleton.mpr rfl
  unfold Host.gather
  refine congrArg x (funext fun a => Fin.ext ?_)
  show d.start (ix2 n k) idx a + d.batchCoord (ix2 n k) a + d.offCoord (ix2 n k) a = _
  match a with
  | ⟨0, _⟩ =>
    show d.start (ix2 n k) idx (0 : Fin 2) + d.batchCoord (ix2 n k) (0 : Fin 2) + d.offCoord (ix2 n k) (0 : Fin 2) = n.val
    rw [d.start_batching _ _ _ h0, d.offCoord_eq_zero _ _ fun h => ((d.mem_sKept _).1 h).2 h0]
    unfold GatherDims.batchCoord
    rw [dif_pos h0, Nat.zero_add, Nat.add_zero]
    rfl
  | ⟨1, _⟩ =>
    show d.start (ix2 n k) idx (1 : Fin 2) + d.batchCoord (ix2 n k) (1 : Fin 2) + d.offCoord (ix2 n k) (1 : Fin 2) = m.val
    rw [d.batchCoord_eq_zero _ _ (by decide), d.offCoord_eq_zero _ _ fun h => ((d.mem_sKept _).1 h).1 (List.mem_singleton.mpr rfl)]
    unfold GatherDims.start
    rw [dif_pos h1]
    have hi : d.siIdx (ix2 n k) ⟨d.startIndexMap.idxOf 1, List.idxOf_lt_length_iff.2 h1⟩ = ix3 n k 0 := by
      funext b
      match b with
      | ⟨0, _⟩ => rfl
      | ⟨1, _⟩ => rfl
      | ⟨2, _⟩ => rfl
    refine (congrArg (fun v : BitVec 32 => min v.toInt.toNat (16 - 1)) ((congrArg idx hi).trans h)).trans (clamp_word m)

/-- A window of sixteen ending at place `k`, padded low, sums the row up to `k`. -/
theorem window_sum (g : Fin 16 → EReal) (k : Fin 16) :
    (∑ b : Fin 16, if h : 15 ≤ k.val + b.val then g ⟨k.val + b.val - 15, by omega⟩ else 0) = ∑ l, if l ≤ k then g l else 0 := by
  have h1 : ∀ b : Fin 16, (if h : 15 ≤ k.val + b.val then g ⟨k.val + b.val - 15, by omega⟩ else 0)
      = ∑ l : Fin 16, if l.val + 15 = k.val + b.val then g l else 0 := fun b => by
    split
    · next h =>
      rw [Finset.sum_eq_single_of_mem (⟨k.val + b.val - 15, by omega⟩ : Fin 16) (Finset.mem_univ _), if_pos (by dsimp only; omega)]
      intro l _ hl
      refine if_neg fun e => hl (Fin.ext ?_)
      dsimp only; omega
    · next h => exact (Finset.sum_eq_zero fun l _ => if_neg (by omega)).symm
  rw [Finset.sum_congr rfl fun b _ => h1 b, Finset.sum_comm]
  refine Finset.sum_congr rfl fun l _ => ?_
  by_cases hl : l ≤ k
  · have hl' : l.val ≤ k.val := hl
    rw [if_pos hl, Finset.sum_eq_single_of_mem (⟨l.val + 15 - k.val, by omega⟩ : Fin 16) (Finset.mem_univ _), if_pos (by dsimp only; omega)]
    intro b _ hb
    refine if_neg fun e => hb (Fin.ext ?_)
    dsimp only; omega
  · have hl' : k.val < l.val := not_le.1 hl
    rw [if_neg hl]
    exact Finset.sum_eq_zero fun b _ => if_neg (by omega)

/-- The running sum along a row. -/
theorem cumsum_row (x : FVec Ideal S4096x16 .f32) (init : FVec Ideal S_ .f32) (h0 : ∀ i, init i = (0 : EReal)) (n : Fin 4096) (k : Fin 16) :
    Host.reduceWindowAdd (F := Ideal) (t := S4096x16) ![1, 16] ![1, 1] ![0, 15] ![0, 0] x init
        Facts₀.reduceWindows_S4096x16_S4096x16_w1s1p0_0_w16s1p15_0 Facts₀.h_S_ (ix2 n k)
      = ∑ l : Fin 16, if l ≤ k then (x (ix2 n l) : EReal) else 0 := by
  rw [← window_sum (fun l => x (ix2 n l)) k]
  simp only [Host.reduceWindowAdd, Ideal.hostReduceWindowAdd_def, Ideal.hostReduceWindowAdd, Host.reduceWindow, h0]
  have hfold : ∀ f : Fin (⟨2, ![1, 16]⟩ : Shape).numel → EReal,
      List.foldl (fun r q => r + f q) 0 (List.finRange (⟨2, ![1, 16]⟩ : Shape).numel) = ∑ b : Fin 16, f ((⟨2, ![1, 16]⟩ : Shape).rowMajor (ix2 0 b)) := fun f => by
    rw [← List.foldl_map (f := f) (g := fun r y => r + y), ← List.sum_eq_foldl, ← List.ofFn_eq_map, List.sum_ofFn,
      ← Equiv.sum_comp (⟨2, ![1, 16]⟩ : Shape).rowMajor, sum_idx2, Fin.sum_univ_one]
  refine (hfold _).trans (Finset.sum_congr rfl fun b _ => ?_)
  simp only [Equiv.symm_apply_apply]
  by_cases hb : 15 ≤ k.val + b.val
  · rw [dif_pos hb, dif_pos]
    · refine congrArg x (funext fun a => Fin.ext ?_)
      match a with
      | ⟨0, _⟩ => show n.val * 1 + 0 - 0 = n.val; omega
      | ⟨1, _⟩ => show k.val * 1 + b.val - 15 = k.val + b.val - 15; omega
    · intro a
      match a with
      | ⟨0, _⟩ => show 0 ≤ n.val * 1 + 0 ∧ n.val * 1 + 0 - 0 < 4096; omega
      | ⟨1, _⟩ => show 15 ≤ k.val * 1 + b.val ∧ k.val * 1 + b.val - 15 < 16; omega
  · rw [dif_neg hb, dif_neg]
    intro h
    have h1 : 15 ≤ k.val * 1 + b.val := (h 1).1
    omega

end Cert.ReferenceIdeal.Ops
end
-- ==== Proof.RefTopP.lean ====
module

public import proofs.«01_k».proof.Proof.RefLogits
public import proofs.«01_k».proof.Proof.RefOps
public import Idealize.ShloMosaic.Lib.ReduceAll

/-! The reference's nucleus filter: sort, running sum, cut, and the way back to the experts' order. -/

@[expose] public section

set_option maxRecDepth 16384

noncomputable section

namespace Cert.ReferenceIdeal.Filter

open Cert.ReferenceIdeal Cert.ReferenceIdeal.Gen Cert.ReferenceIdeal.Read Idealize.ShloMosaic Cert.TopP Cert.Gate Cert.Word
open Cert.ReferenceIdeal.Logits Cert.ReferenceIdeal.Ops

variable (x0 : (⟨S4096x196x8x8, .f32⟩ : BufTy).Contents (Elt Ideal)) (x1 : (⟨S128x196, .f32⟩ : BufTy).Contents (Elt Ideal))
  (x2 : (⟨S128, .f32⟩ : BufTy).Contents (Elt Ideal)) (x3 : (⟨S16x128, .f32⟩ : BufTy).Contents (Elt Ideal))
  (x4 : (⟨S16, .f32⟩ : BufTy).Contents (Elt Ideal))

/-- The shares of example `n`. -/
def share (n : Fin 4096) : Fin 16 → EReal := prob (expRow (logits x0 x1 x2 x3 x4 n))

/-- The expert at each place of the descending order. -/
def order (n : Fin 4096) : Fin 16 → Fin 16 := place fun j => -share x0 x1 x2 x3 x4 n j

/-- The argsort of the negated shares. -/
theorem order_apply (n : Fin 4096) (k : Fin 16) :
    val_main_v28 (F := Ideal) x0 x1 x2 x3 x4 (ix2 n k) = BitVec.ofNat 32 (order x0 x1 x2 x3 x4 n k).val := by
  have h : (fun j : Fin 16 => (val_main_v27 (F := Ideal) x0 x1 x2 x3 x4 (ix2 n j) : EReal)) = fun j => -share x0 x1 x2 x3 x4 n j := by
    funext j
    exact congrArg (fun y : EReal => -y) (prob_apply x0 x1 x2 x3 x4 n j)
  exact (sort_keys (val_main_v27 (F := Ideal) x0 x1 x2 x3 x4) n k).trans
    (congrArg (fun f : Fin 16 → EReal => BitVec.ofNat 32 (place f k).val) h)

/-- The argsort of that order: each expert's place in it. -/
theorem rank_apply (n : Fin 4096) (e : Fin 16) :
    val_main_v40 (F := Ideal) x0 x1 x2 x3 x4 (ix2 n e) = BitVec.ofNat 32 (place (order x0 x1 x2 x3 x4 n) e).val :=
  sort_positions (val_main_v28 (F := Ideal) x0 x1 x2 x3 x4) (order x0 x1 x2 x3 x4 n) n e (order_apply x0 x1 x2 x3 x4 n)

/-- A position's word is not negative: wrapping leaves it alone. -/
theorem wrap_word : ∀ m : Fin 16, Scalar.select (IntOp.cmpi .slt (BitVec.ofNat 32 m.val) 0#32)
    (IntOp.addi (BitVec.ofNat 32 m.val) 16#32) (BitVec.ofNat 32 m.val) = BitVec.ofNat 32 m.val := by decide

/-- A position's word is within the row. -/
theorem bound_word : ∀ m : Fin 16, IntOp.andi (IntOp.cmpi .sge (BitVec.ofNat 32 m.val) 0#32)
    (IntOp.cmpi .sle (BitVec.ofNat 32 m.val) 15#32) = 1#1 := by decide

/-- The indices of the gather into the descending order. -/
theorem idx_order (n : Fin 4096) (k : Fin 16) :
    val_main_call2_v5 (F := Ideal) x0 x1 x2 x3 x4 (ix3 n k 0) = BitVec.ofNat 32 (order x0 x1 x2 x3 x4 n k).val := by
  pointwise [val_main_call2_v5, val_main_call2_v4, val_main_call2_v3, val_main_call2_v2, val_main_call2_v1, val_main_call2_v0, val_main_call2_c, val_main_call2_c_0]
  simp only [order_apply]
  exact wrap_word _

/-- The indices of the gather back to the experts' order. -/
theorem idx_rank (n : Fin 4096) (e : Fin 16) :
    val_main_call5_v5 (F := Ideal) x0 x1 x2 x3 x4 (ix3 n e 0) = BitVec.ofNat 32 (place (order x0 x1 x2 x3 x4 n) e).val := by
  pointwise [val_main_call5_v5, val_main_call5_v4, val_main_call5_v3, val_main_call5_v2, val_main_call5_v1, val_main_call5_v0, val_main_call5_c, val_main_call5_c_0]
  simp only [rank_apply]
  exact wrap_word _

/-- Every index of the first gather is within its row. -/
theorem bound_order (i : S4096x16x1.Idx) : val_main_call2_v11 (F := Ideal) x0 x1 x2 x3 x4 i = 1#1 := by
  obtain ⟨n, k, z, rfl⟩ : ∃ n k z, i = ix3 n k z := ⟨_, _, _, eq_ix3 i⟩
  obtain rfl : z = 0 := Subsingleton.elim _ _
  pointwise [val_main_call2_v11, val_main_call2_v10, val_main_call2_v9, val_main_call2_v8, val_main_call2_v7, val_main_call2_v6, val_main_call2_c_1, val_main_call2_c_2]
  simp only [idx_order]
  exact bound_word _

/-- Every index of the second gather is within its row. -/
theorem bound_rank (i : S4096x16x1.Idx) : val_main_call5_v11 (F := Ideal) x0 x1 x2 x3 x4 i = 1#1 := by
  obtain ⟨n, k, z, rfl⟩ : ∃ n k z, i = ix3 n k z := ⟨_, _, _, eq_ix3 i⟩
  obtain rfl : z = 0 := Subsingleton.elim _ _
  pointwise [val_main_call5_v11, val_main_call5_v10, val_main_call5_v9, val_main_call5_v8, val_main_call5_v7, val_main_call5_v6, val_main_call5_c_1, val_main_call5_c_2]
  simp only [idx_rank]
  exact bound_word _

/-- The shares in descending order. -/
theorem sorted_apply (n : Fin 4096) (k : Fin 16) :
    val_main_v29 (F := Ideal) x0 x1 x2 x3 x4 (ix2 n k) = share x0 x1 x2 x3 x4 n (order x0 x1 x2 x3 x4 n k) := by
  rw [val_main_v29_apply]
  have h1 : val_main_call2_v12 (F := Ideal) x0 x1 x2 x3 x4 (ix2 n k) = 1#1 :=
    Host.reduce_andi_one _ _ _ _ _ rfl (bound_order x0 x1 x2 x3 x4)
  have h2 : val_main_call2_v13 (F := Ideal) x0 x1 x2 x3 x4 (ix2 n k) = share x0 x1 x2 x3 x4 n (order x0 x1 x2 x3 x4 n k) :=
    (gather_row _ _ n k _ (idx_order x0 x1 x2 x3 x4 n k)).trans (prob_apply x0 x1 x2 x3 x4 n _)
  rw [h1, h2]
  rfl

/-- The running sum of the sorted shares. -/
theorem running_apply (n : Fin 4096) (k : Fin 16) :
    val_main_v30 (F := Ideal) x0 x1 x2 x3 x4 (ix2 n k) = running (share x0 x1 x2 x3 x4 n) k := by
  refine (cumsum_row (val_main_v29 (F := Ideal) x0 x1 x2 x3 x4) (val_main_call3_call0_v0 (F := Ideal)) (fun i => ?_) n k).trans ?_
  · rw [val_main_call3_call0_v0_apply, val_main_call3_call0_cst_apply]
    show Ideal.ofBits .f32 0x00000000#32 = 0
    simp [Ideal.ofBits, Ideal.ieee]
  · unfold running
    refine Finset.sum_congr rfl fun l _ => ?_
    rw [sorted_apply]
    rfl

/-- The first place's test, read off the place's word. -/
theorem first_word : ∀ k : Fin 16, IntOp.cmpi .slt (BitVec.ofNat 32 k.val) 1#32 = BitVec.ofBool (decide (k.val < 1)) := by decide

/-- The cut in the sorted order, as a zero or a one. -/
theorem cut_apply (n : Fin 4096) (k : Fin 16) :
    val_main_v39 (F := Ideal) x0 x1 x2 x3 x4 (ix2 n k)
      = if running (share x0 x1 x2 x3 x4 n) k ≤ Ideal.ofBits .f32 0x3F4CCCCD#32 ∨ k.val < 1 then (1 : EReal) else 0 := by
  pointwise [val_main_v39, val_main_v38, val_main_v37, val_main_v36, val_main_v35, val_main_v34, val_main_v33, val_main_v32, val_main_v31, val_main_cst_5, val_main_c]
  simp only [running_apply]
  rw [first_word, or_word]
  have hu : ∀ b : Bool, (FloatOps.uitofp .f32 (BitVec.ofBool b) : Ideal .f32) = if b = true then (1 : EReal) else 0 := fun b => by
    cases b
    · show (((BitVec.ofBool false).toNat : ℝ) : EReal) = _
      simp
    · show (((BitVec.ofBool true).toNat : ℝ) : EReal) = _
      simp
  rw [hu]
  simp only [Bool.or_eq_true, decide_eq_true_eq]

/-- The kept shares. -/
theorem kept_apply (n : Fin 4096) (e : Fin 16) :
    val_main_v42 (F := Ideal) x0 x1 x2 x3 x4 (ix2 n e)
      = sortMasked (Ideal.ofBits .f32 0x3F4CCCCD#32) (share x0 x1 x2 x3 x4 n) e := by
  rw [val_main_v42_apply, val_main_v41_apply]
  have h1 : val_main_call5_v12 (F := Ideal) x0 x1 x2 x3 x4 (ix2 n e) = 1#1 :=
    Host.reduce_andi_one _ _ _ _ _ rfl (bound_rank x0 x1 x2 x3 x4)
  have h2 := (gather_row (val_main_v39 (F := Ideal) x0 x1 x2 x3 x4) _ n e _ (idx_rank x0 x1 x2 x3 x4 n e)).trans (cut_apply x0 x1 x2 x3 x4 n _)
  rw [h1]
  exact congrArg₂ (fun a b : EReal => a * b) (prob_apply x0 x1 x2 x3 x4 n e) h2

/-- The reference's result is the gate by the sort. -/
theorem result_apply (n : Fin 4096) (e : Fin 16) :
    val_main_v47 (F := Ideal) x0 x1 x2 x3 x4 (ix2 n e) = sortGate (expRow (logits x0 x1 x2 x3 x4 n)) e := by
  pointwise [val_main_v47, val_main_v46, val_main_v45, val_main_v44, val_main_v43, val_main_call6_v1, val_main_call6_v0, val_main_cst_7, val_main_cst_6]
  simp only [kept_apply]
  rfl

/-- The reference's result is the rank-based gate. -/
theorem result_eq : val_main_v47 (F := Ideal) x0 x1 x2 x3 x4 = result x0 x1 x2 x3 x4 := by
  funext i
  obtain ⟨n, e, rfl⟩ : ∃ n e, i = ix2 n e := ⟨_, _, eq_ix2 i⟩
  rw [result_apply, ← gate_eq_sortGate]
  rfl

end Cert.ReferenceIdeal.Filter
end
-- ==== Proof.lean ====
/- The certificate of the mixture-of-experts gate kernel: the kernel, its ideal reading and the plain reference each run to
   the end, fault nowhere and leave their arguments and semaphores as they were; the ideal reading is the kernel's own text;
   and over the extended reals kernel and reference end with the same gate, on every input. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefTopP
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged and every semaphore at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals, from equal arguments, kernel and reference leave equal results. -/
theorem same_result : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Whole.goal m c, ?_, ?_⟩
  · exact (θ_run Cert.KernelIdeal.defs _ _).mono (fun r h c => ⟨(h c).1.trans (Cert.KernelIdeal.Whole.final m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, -, -⟩ := hagree c
    refine (Cert.ReferenceIdeal.Read.val_main_v47_eq (F := Ideal) (StableHlo.launchContents m' c)).trans ?_
    rw [Cert.ReferenceIdeal.Filter.result_eq]
    exact congr (congr (congr (congrArg₂ Cert.Gate.result e0 e1) e2) e3) e4

/-- Everything that is claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, same_result⟩

end Cert.Proof

end
